-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S4 : Shape := ⟨1, ![4]⟩
abbrev S_ : Shape := ⟨0, ![]⟩
abbrev S1x128x512 : Shape := ⟨3, ![1, 128, 512]⟩
abbrev S128x512 : Shape := ⟨2, ![128, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .bf16⟩
  | .hbm, ⟨1, _⟩ => ⟨S512x512, .bf16⟩
  | .local _ .vmem, ⟨0, _⟩ => ⟨S1x512x1024, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_8 : Index := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c512_i32 : BitVec 32 := 512#32
  let v18 : BitVec 32 := Scalar.muli v17 c512_i32
  let v19 : Index := Scalar.indexCast v18
  ![0, 0, v19.toNat]
def k0_off2 (d0 : Dev nD) : Fin 3 → Nat :=
  let c0_13 : Index := 0#32
  let c128 : Index := 128#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_11 v2
  let c512_i32_12 : BitVec 32 := 512#32
  let v26 : BitVec 32 := Scalar.muli v25 c512_i32_12
  let v27 : Index := Scalar.indexCast v26
  ![0, 128, v27.toNat]
def k0_off3 (d0 : Dev nD) : Fin 3 → Nat :=
  let c0_18 : Index := 0#32
  let c256 : Index := 256#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let c512_i32_17 : BitVec 32 := 512#32
  let v34 : BitVec 32 := Scalar.muli v33 c512_i32_17
  let v35 : Index := Scalar.indexCast v34
  ![0, 256, v35.toNat]
def k0_off4 (d0 : Dev nD) : Fin 3 → Nat :=
  let c0_23 : Index := 0#32
  let c384 : Index := 384#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_21 v2
  let c512_i32_22 : BitVec 32 := 512#32
  let v42 : BitVec 32 := Scalar.muli v41 c512_i32_22
  let v43 : Index := Scalar.indexCast v42
  ![0, 384, v43.toNat]
def k0_dev2 (d0 : Dev nD) : Nat :=
  let c0_i32_30 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_29 : BitVec 32 := 8#32
  let v49 : BitVec 32 := Scalar.muli v9 c8_i32_29
  let v50 : BitVec 32 := Scalar.addi c0_i32_30 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v51 : BitVec 32 := Scalar.muli v5 c4_i32_31
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v53 : BitVec 32 := Scalar.muli v8 c1_i32_32
  let v54 : BitVec 32 := Scalar.addi v52 v53
  v54.toNat
def k0_dev3 (d0 : Dev nD) : Nat :=
  let c0_i32_40 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_39 : BitVec 32 := 8#32
  let v61 : BitVec 32 := Scalar.muli v9 c8_i32_39
  let v62 : BitVec 32 := Scalar.addi c0_i32_40 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v63 : BitVec 32 := Scalar.muli v5 c4_i32_41
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v65 : BitVec 32 := Scalar.muli v8 c1_i32_42
  let v66 : BitVec 32 := Scalar.addi v64 v65
  v66.toNat
def k0_dev4 (d0 : Dev nD) : Nat :=
  let c0_i32_49 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_48 : BitVec 32 := 8#32
  let v73 : BitVec 32 := Scalar.muli v9 c8_i32_48
  let v74 : BitVec 32 := Scalar.addi c0_i32_49 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v75 : BitVec 32 := Scalar.muli v5 c4_i32_50
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v77 : BitVec 32 := Scalar.muli v8 c1_i32_51
  let v78 : BitVec 32 := Scalar.addi v76 v77
  v78.toNat
def k0_dev5 (d0 : Dev nD) : Nat :=
  let c0_i32_57 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_56 : BitVec 32 := 8#32
  let v85 : BitVec 32 := Scalar.muli v9 c8_i32_56
  let v86 : BitVec 32 := Scalar.addi c0_i32_57 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v87 : BitVec 32 := Scalar.muli v5 c4_i32_58
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v89 : BitVec 32 := Scalar.muli v8 c1_i32_59
  let v90 : BitVec 32 := Scalar.addi v88 v89
  v90.toNat
def k0_off5 (d0 : Dev nD) : Fin 3 → Nat :=
  let c0_74 : Index := 0#32
  let c0_75 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_73 : BitVec 32 := 512#32
  let v107 : BitVec 32 := Scalar.muli v2 c512_i32_73
  let v108 : Index := Scalar.indexCast v107
  ![0, 0, v108.toNat]
def k0_off6 (d0 : Dev nD) : Fin 3 → Nat :=
  let c0_91 : Index := 0#32
  let c128_92 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v124 : BitVec 32 := Scalar.muli v2 c512_i32_90
  let v125 : Index := Scalar.indexCast v124
  ![0, 128, v125.toNat]
def k0_off7 (d0 : Dev nD) : Fin 3 → Nat :=
  let c0_108 : Index := 0#32
  let c256_109 : Index := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_107 : BitVec 32 := 512#32
  let v141 : BitVec 32 := Scalar.muli v2 c512_i32_107
  let v142 : Index := Scalar.indexCast v141
  ![0, 256, v142.toNat]
def k0_off8 (d0 : Dev nD) : Fin 3 → Nat :=
  let c0_125 : Index := 0#32
  let c384_126 : Index := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_124 : BitVec 32 := 512#32
  let v158 : BitVec 32 := Scalar.muli v2 c512_i32_124
  let v159 : Index := Scalar.indexCast v158
  ![0, 384, v159.toNat]
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x512x1024, .bf16⟩
  | .hbm, ⟨1, _⟩ => ⟨S2x512x1024, .f32⟩
  | .hbm, ⟨2, _⟩ => ⟨S_, .f32⟩
  | .hbm, ⟨3, _⟩ => ⟨S512x1024, .f32⟩
  | .hbm, ⟨4, _⟩ => ⟨S512x1024, .bf16⟩
  | _, _ => ⟨S2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdealRun.Protocol.lean ====
/-
  The exchange between partner devices, as a protocol.

  The sixteen devices form a 2 × 2 × 4 mesh; device `c` and its partner `peer c` differ in the first coordinate only.
  Each device cuts its 512 × 512 buffers into four chunks of 128 rows. It copies the half of its `x` that its partner keeps
  into its send buffer, chunk by chunk, tells the partner by the barrier semaphore that its receive buffer is free, and
  copies the four chunks into the partner's receive buffer. It adds each chunk that lands to the half of `x` it keeps itself.

  This module names the devices' cells (one barrier cell, four send cells, four receive cells), the contents of the
  chunks, what each cell hands to the device that waits on it, what each device owes at launch, and the levels that
  order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one copy of the rounds' bookkeeping for the staging cells, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The initial state: memory `m`, every counter zero. -/
def s₀ : MemSt nD τ sig (Elt F) := ⟨m, fun _ => 0, ρ⟩

/-! ## Partners -/

/-- The partner: the device eight away. -/
def peer (c : Dev nD) : Dev nD := ⟨(c.val + 8) % 16, Nat.mod_lt _ (by decide)⟩

theorem peer_peer (c : Dev nD) : peer (peer c) = c := by revert c; decide

/-- A device's partner has the other first coordinate. -/
theorem peer_div (c : Dev nD) : (peer c).val / 8 = 1 - c.val / 8 := by revert c; decide

/-- Taking partners, as a permutation of the devices. -/
def swap : Dev nD ≃ Dev nD := ⟨peer, peer, peer_peer, peer_peer⟩

/-- The address the kernel computes is the partner's. -/
theorem addr_eq {n : ℕ} (c : Dev nD) (h : n = (4 * ((c.val / 4) % 2) + (c.val % 4) + 8) - 8 * (c.val / 8)) :
    n = (peer c).val := by
  subst h; revert c; decide

/-! ## Chunks -/

/-- The block of `x` a device stages, its result block, its send buffer and its receive buffer. -/
abbrev xM : Memref sig .tc .vmem S1x512x1024 .bf16 := Memref.whole cc0_stg0_0
abbrev oM : Memref sig .tc .vmem S512x512 .bf16 := Memref.whole cc0_stg1_0
abbrev sM : Memref sig .tc .vmem S512x512 .bf16 := Memref.whole cc0_scratch0
abbrev rM : Memref sig .tc .vmem S512x512 .bf16 := Memref.whole cc0_scratch1

/-- Where chunk `i` begins. -/
abbrev rowOff (i : Fin 4) : Fin 2 → ℕ := ![128 * i.val, 0]

theorem rowOff_inb (i : Fin 4) : ∀ a, rowOff i a + S128x512.size a ≤ S512x512.size a := by revert i; decide

/-- Chunk `i`'s rows. -/
abbrev rows (i : Fin 4) : Rect S512x512 := Rect.unit (s := S512x512) (rowOff i) S128x512.size (rowOff_inb i)

/-- Chunk `i` of a buffer. -/
abbrev chunk (b : Memref sig .tc .vmem S512x512 .bf16) (i : Fin 4) : Memref sig .tc .vmem S128x512 .bf16 :=
  b.slice (rows i) (fun _ => rfl)

/-- The chunk a row belongs to. -/
def chunkOf (y : S512x512.Idx) : Fin 4 := ⟨(y 0).val / 128, by have : (y 0).val < 512 := (y 0).isLt; omega⟩

/-- An index's place within its chunk. -/
def within (y : S512x512.Idx) : S128x512.Idx := fun a =>
  ⟨if a = 0 then (y 0).val % 128 else (y a).val, by
    fin_cases a
    · exact Nat.mod_lt _ (by decide)
    · exact (y 1).isLt⟩

/-- An index is its chunk's index `within`. -/
theorem rows_within (y : S512x512.Idx) : (rows (chunkOf y)).emb (within y) = y := by
  funext a; apply Fin.ext
  fin_cases a
  · show 128 * ((y 0).val / 128) + 1 * ((y 0).val % 128) = (y 0).val
    omega
  · show 0 + 1 * (y 1).val = (y 1).val
    omega

/-- The 512 × 512 values whose chunks are `V`. -/
def assemble (V : Fin 4 → S128x512.Idx → Elt F .bf16) : S512x512.Idx → Elt F .bf16 := fun y => V (chunkOf y) (within y)

omit [FloatOps F] in
/-- Values are determined by their chunks. -/
theorem eq_assemble (b : Memref sig .tc .vmem S512x512 .bf16) (g : b.view.ty.Contents (Elt F)) (V : Fin 4 → S128x512.Idx → Elt F .bf16)
    (h : ∀ i, (chunk b i).view.read (Elt F) g = V i) : b.view.read (Elt F) g = assemble V := by
  funext y
  have := congrFun (h (chunkOf y)) (within y)
  rw [assemble, ← this]
  conv_lhs => rw [← rows_within y]
  rfl

/-- Different chunks of a buffer share no element; -/
theorem chunk_disjoint (b : Memref sig .tc .vmem S512x512 .bf16) (i j : Fin 4) (h : i ≠ j) :
    Disjoint (chunk b i).view.set (chunk b j).view.set := by
  show Disjoint (b.view.slice (rows i)).set (b.view.slice (rows j)).set
  rw [View.set_slice, View.set_slice, Finset.disjoint_map]
  refine Finset.disjoint_left.mpr fun y hi hj => h ?_
  have hi := Rect.mem_set_unit.mp hi 0
  have hj := Rect.mem_set_unit.mp hj 0
  replace hi : 128 * i.val ≤ (y 0).val ∧ (y 0).val < 128 * i.val + 128 := hi
  replace hj : 128 * j.val ≤ (y 0).val ∧ (y 0).val < 128 * j.val + 128 := hj
  exact Fin.ext (by omega)

/-- and the four are all of it. -/
theorem chunk_cover (b : Memref sig .tc .vmem S512x512 .bf16) :
    (Finset.univ.biUnion fun i : Fin 4 => (chunk b i).view.set) = b.view.set := by
  ext x; rw [Finset.mem_biUnion]
  constructor
  · rintro ⟨i, -, h⟩; exact View.set_slice_subset b.view (rows i) h
  · intro h
    obtain ⟨y, -, rfl⟩ := Finset.mem_map.mp h
    refine ⟨chunkOf y, Finset.mem_univ _, ?_⟩
    have := View.emb_mem_set (v := (chunk b (chunkOf y)).view) (within y)
    rwa [show (chunk b (chunkOf y)).view.emb (within y) = b.view.emb ((rows (chunkOf y)).emb (within y)) from rfl, rows_within] at this

/-- Chunk `i` of a buffer of device `c`, held at the contents `f`. -/
abbrev chunkPts (c : Dev nD) (b : Memref sig .tc .vmem S512x512 .bf16) (i : Fin 4)
    (f : Buf (Elt F) ((chunk b i).view.loc (c : Thread nD τ))) : sProp 𝕄 :=
  (chunk b i).view.loc (c : Thread nD τ) ↦[(chunk b i).view.set]{fullShare} f

/-- Chunk `i` of a buffer of device `c`, held at the values `X`. -/
abbrev held (c : Dev nD) (b : Memref sig .tc .vmem S512x512 .bf16) (i : Fin 4) (X : S128x512.Idx → Elt F .bf16) : sProp 𝕄 :=
  chunkPts c b i ((chunk b i).view.rep X)

/-- A chunk whose contents read `X` is held at `X`. -/
theorem held_of_read (c : Dev nD) (b : Memref sig .tc .vmem S512x512 .bf16) (i : Fin 4)
    (f : Buf (Elt F) ((chunk b i).view.loc (c : Thread nD τ))) (X : S128x512.Idx → Elt F .bf16)
    (h : (chunk b i).view.read (Elt F) f = X) : (chunkPts c b i f : sProp 𝕄) ⊢ held c b i X :=
  pointsTo_rep_of_read (c : Thread nD τ) (chunk b i) f fullShare X h

/-- A buffer held whole. -/
abbrev wholePts (c : Dev nD) (b : Memref sig .tc .vmem S512x512 .bf16) (f : Buf (Elt F) (b.view.loc (c : Thread nD τ))) : sProp 𝕄 :=
  b.view.loc (c : Thread nD τ) ↦[b.view.set]{fullShare} f

omit [FloatOps F] in
/-- A buffer is held as its chunks. -/
theorem chunks_split (c : Dev nD) (b : Memref sig .tc .vmem S512x512 .bf16) (f : Buf (Elt F) (b.view.loc (c : Thread nD τ))) :
    (wholePts c b f : sProp 𝕄) = bigSep Finset.univ fun i : Fin 4 => chunkPts c b i f := by
  have h := pointsTo_biUnion (Ix := Unit) (Name := ℕ) (U := UU) (Lvl := ℕ) (ℓ := b.view.loc (c : Thread nD τ)) (q := fullShare) (f := f)
    Finset.univ (fun i : Fin 4 => (chunk b i).view.set) (fun i _ j _ hij => chunk_disjoint b i j hij)
  rw [chunk_cover b] at h
  exact h

/-- Chunks held at values `V` join to the buffer held at contents that read as `V` assembled. -/
theorem chunks_join (c : Dev nD) (b : Memref sig .tc .vmem S512x512 .bf16) (V : Fin 4 → S128x512.Idx → Elt F .bf16)
    (f₀ : Buf (Elt F) (b.view.loc (c : Thread nD τ))) :
    (bigSep Finset.univ fun i : Fin 4 => held c b i (V i) : sProp 𝕄)
      ⊢ iprop(∃ g : Buf (Elt F) (b.view.loc (c : Thread nD τ)), ⌜b.view.read (Elt F) g = assemble V⌝ ∗ wholePts c b g) := by
  have h := pointsTo_biUnion_join (Ix := Unit) (Name := ℕ) (U := UU) (Lvl := ℕ) (ℓ := b.view.loc (c : Thread nD τ)) (q := fullShare)
    Finset.univ (fun i : Fin 4 => (chunk b i).view.set) (fun i => (chunk b i).view.rep (V i)) f₀ (fun i _ j _ hij => chunk_disjoint b i j hij)
  rw [chunk_cover b] at h
  refine BIBase.Entails.trans h ?_
  iintro ⟨%g, %hg, H⟩
  iexists g
  isplitr
  · ipureintro
    refine eq_assemble b g V fun i => ?_
    rw [View.read_congr (v := (chunk b i).view) (f := g) (g := (chunk b i).view.rep (V i)) fun j hj => hg i (Finset.mem_univ _) j hj]
    exact View.read_rep _ _
  · iexact H

/-! ## Contents -/

/-- The block of `x` that device `c` stages. -/
def xstg (c : Dev nD) : (cc0_stg0_0 : Ref sig .tc).ty.Contents (Elt F) :=
  (win0_0.blk (0 : Fin 1)).view.read (Elt F) ((s₀ m ρ).mem ((c : Thread nD τ).loc main_arg0))

/-- Where chunk `i` of the half device `c` sends begins in `x`, and where the half it keeps. -/
abbrev sentOff (c : Dev nD) (i : Fin 4) : Fin 3 → ℕ := ![0, 128 * i.val, 512 - 512 * (c.val / 8)]
abbrev keptOff (c : Dev nD) (i : Fin 4) : Fin 3 → ℕ := ![0, 128 * i.val, 512 * (c.val / 8)]

theorem sentOff_inb (c : Dev nD) (i : Fin 4) : ∀ a, sentOff c i a + S1x128x512.size a ≤ S1x512x1024.size a := by revert c i; decide
theorem keptOff_inb (c : Dev nD) (i : Fin 4) : ∀ a, keptOff c i a + S1x128x512.size a ≤ S1x512x1024.size a := by revert c i; decide

/-- The 128 × 512 piece of `x` from the offsets `o` on. -/
def piece (c : Dev nD) (o : Fin 3 → ℕ) (h : ∀ a, o a + S1x128x512.size a ≤ S1x512x1024.size a) : Vec F S1x128x512 .bf16 :=
  xM.view.readAt (Elt F) (Rect.unit (s := S1x512x1024) o S1x128x512.size h).toLoadRect (xstg m ρ c)

/-- Chunk `i` of what device `c` sends. -/
def sentVal (c : Dev nD) (i : Fin 4) : S128x512.Idx → Elt F .bf16 := k0_pay1 (piece m ρ c (sentOff c i) (sentOff_inb c i))

/-- Chunk `i` of device `c`'s result: its own half and what its partner sent, added. -/
def outVal (c : Dev nD) (i : Fin 4) : S128x512.Idx → Elt F .bf16 :=
  k0_pay5 (piece m ρ c (keptOff c i) (keptOff_inb c i)) (sentVal m ρ (peer c) i)

/-- Device `c`'s result block. -/
def outAt (c : Dev nD) : (cc0_stg1_0 : Ref sig .tc).ty.Contents (Elt F) := assemble (outVal m ρ c)

/-! ## Cells -/

/-- A device's semaphores for the exchange. -/
inductive Slot : Type
  | bar
  | send (i : Fin 4)
  | recv (i : Fin 4)
  deriving DecidableEq

def slots : List Slot := [.bar, .send 0, .send 1, .send 2, .send 3, .recv 0, .recv 1, .recv 2, .recv 3]
theorem mem_slots (k : Slot) : k ∈ slots := by
  cases k with
  | bar => decide
  | send i => revert i; decide
  | recv i => revert i; decide
instance : Fintype Slot := ⟨slots.toFinset, fun k => List.mem_toFinset.mpr (mem_slots k)⟩

abbrev barS : Sem sig := (SemArray.scalar (sig.barrier 0 rfl) : Sems sig S_).sem

theorem lane_inb (i : Fin 4) : ∀ a, (![i.val] : Fin 1 → ℕ) a + S1.size a ≤ S4.size a := by revert i; decide

/-- The semaphores of chunk `i`: a device's own copy of it has left, and its partner's has landed. -/
abbrev sendS (i : Fin 4) : DmaSem sig := ((cc0_scratch2.slice (Rect.unit (s := S4) ![i.val] S1.size (lane_inb i))).squeeze S_ squeezes_S1_S_).sem
abbrev recvS (i : Fin 4) : DmaSem sig := ((cc0_scratch3.slice (Rect.unit (s := S4) ![i.val] S1.size (lane_inb i))).squeeze S_ squeezes_S1_S_).sem

abbrev semOf : Slot → SemLoc sig
  | .bar => .reg barS
  | .send i => .dma (sendS i)
  | .recv i => .dma (recvS i)

theorem semOf_injective : Function.Injective semOf := by
  have h : ∀ a ∈ slots, ∀ b ∈ slots, semOf a = semOf b → a = b := by decide
  exact fun a b => h a (mem_slots a) b (mem_slots b)

/-- The cell of device `c`'s semaphore `k`. -/
abbrev kcell (ck : Dev nD × Slot) : GSem nD τ sig := ((ck.1 : Thread nD τ), semOf ck.2)

theorem kcell_injective : Function.Injective kcell := by
  rintro ⟨c, k⟩ ⟨c', k'⟩ h
  have h1 : c = c' := congrArg (fun g : GSem nD τ sig => g.1.1) h
  have h2 : k = k' := semOf_injective (congrArg Prod.snd h)
  rw [h1, h2]

open Classical in
/-- Which of the exchange's semaphores one is, if any. -/
def slotOf (s : SemLoc sig) : Option Slot := if h : ∃ k, semOf k = s then some h.choose else none

theorem slotOf_semOf (k : Slot) : slotOf (semOf k) = some k := by
  unfold slotOf
  rw [dif_pos ⟨k, rfl⟩]
  exact congrArg some (semOf_injective (Exists.choose_spec (⟨k, rfl⟩ : ∃ k', semOf k' = semOf k)))

/-- What a chunk's copy credits. -/
abbrev N : ℕ := (chunk rM 0).view.dmaCredit
theorem N_pos : 0 < N := View.dmaCredit_pos _ (by decide)
theorem credit_recv (i : Fin 4) : (chunk rM i).view.dmaCredit = N := rfl
theorem credit_send (i : Fin 4) : (chunk sM i).view.dmaCredit = N := rfl

/-! ## The schedule -/

/-- What a semaphore is credited: the barrier one unit, the others a chunk. -/
def amt : Slot → ℕ
  | .bar => 1
  | .send _ => N
  | .recv _ => N

theorem amt_pos (k : Slot) : 0 < amt k := by
  cases k
  · exact Nat.one_pos
  · exact N_pos
  · exact N_pos

/-- What a semaphore hands device `c`: the barrier its partner's receive buffer, a send semaphore the chunk of its
    own send buffer again, a receive semaphore the chunk its partner sent. -/
def pay (c : Dev nD) : Slot → sProp 𝕄
  | .bar => iprop(∃ f, wholePts (peer c) rM f)
  | .send i => held c sM i (sentVal m ρ c i)
  | .recv i => held c rM i (sentVal m ρ (peer c) i)

instance pay_storable (c : Dev nD) (k : Slot) : BI.Storable (upEmb : UEmb _ 𝕄) (pay m ρ c k) := by
  cases k <;> (unfold pay; infer_instance)

open Classical in
/-- One round: every cell of the exchange is credited once and hands over what `pay` says. -/
def sched : Rounds.Schedule (GSem nD τ sig) Unit 𝕄 where
  duties g r := if r = 0 ∧ ∃ ck, kcell ck = g then {()} else ∅
  unitless _ := False
  amount g _ _ := (slotOf g.2).elim 1 amt
  payload g _ _ := (slotOf g.2).elim iprop(emp) (pay m ρ g.1.1)
  amount_pos g _ _ _ := by
    cases slotOf g.2 with
    | none => exact Nat.one_pos
    | some k => exact amt_pos k

instance sched_storable (g : GSem nD τ sig) (r : ℕ) (d : Unit) : BI.Storable (upEmb : UEmb _ 𝕄) ((sched m ρ).payload g r d) := by
  show BI.Storable upEmb ((slotOf g.2).elim iprop(emp) (pay m ρ g.1.1))
  cases slotOf g.2 with
  | none => show BI.Storable upEmb iprop(emp); infer_instance
  | some k => exact pay_storable m ρ g.1.1 k

section Cell
variable (c : Dev nD) (k : Slot)

theorem duties_cell : (sched m ρ).duties (kcell (c, k)) 0 = {()} := if_pos ⟨rfl, _, rfl⟩
theorem duties_later (g : GSem nD τ sig) : ∀ r, 0 + 1 ≤ r → (sched m ρ).duties g r = ∅ :=
  fun r hr => if_neg fun h => by omega
theorem mem_duties : () ∈ (sched m ρ).duties (kcell (c, k)) 0 := by rw [duties_cell]; exact Finset.mem_singleton_self _
theorem amount_cell : (sched m ρ).amount (kcell (c, k)) 0 () = amt k := by
  show (slotOf (semOf k)).elim 1 amt = amt k
  rw [slotOf_semOf]; rfl
theorem expect_cell : (sched m ρ).expect (kcell (c, k)) 0 = amt k := by
  unfold Schedule.expect Schedule.amountOf; rw [duties_cell, Finset.sum_singleton, amount_cell]
theorem payload_cell : (sched m ρ).payload (kcell (c, k)) 0 () = pay m ρ c k := by
  show (slotOf (semOf k)).elim iprop(emp) (pay m ρ c) = pay m ρ c k
  rw [slotOf_semOf]; rfl
/-- All that a cell's round hands over. -/
theorem rest_cell : bigSep ((sched m ρ).duties (kcell (c, k)) 0 \ ∅) (fun u => (sched m ρ).payload (kcell (c, k)) 0 u) = pay m ρ c k := by
  rw [Finset.sdiff_empty, duties_cell, bigSep_singleton, payload_cell]

end Cell

/-! ## Debts and levels -/

/-- What device `c` owes its partner's receive cells while the copies of the chunks in the list are still to come. -/
def debt (c : Dev nD) : List (Fin 4) → CellTallies nD τ sig Unit
  | [] => 0
  | i :: l => debt c l + tallyAt (kcell (peer c, .recv i)) () N

/-- What device `c` owes at launch: the four copies and the barrier signal. -/
def O₀ (c : Dev nD) : CellTallies nD τ sig Unit := debt c [0, 1, 2, 3] + tallyAt (kcell (peer c, .bar)) () 1

theorem debt_pos {c : Dev nD} {l : List (Fin 4)} {g : GSem nD τ sig} {u : Unit} (h : 0 < debt c l g u) :
    ∃ i, g = kcell (peer c, .recv i) := by
  induction l with
  | nil => exact absurd h (Nat.lt_irrefl 0)
  | cons i l ih =>
    rw [debt, Pi.add_apply, Finsupp.add_apply, tallyAt_apply] at h
    by_cases hg : g = kcell (peer c, .recv i) ∧ u = ()
    · exact ⟨i, hg.1⟩
    · rw [if_neg hg] at h; exact ih h

theorem O₀_pos {c : Dev nD} {g : GSem nD τ sig} {u : Unit} (h : 0 < O₀ c g u) :
    g = kcell (peer c, .bar) ∨ ∃ i, g = kcell (peer c, .recv i) := by
  rw [O₀, Pi.add_apply, Finsupp.add_apply, tallyAt_apply] at h
  by_cases hg : g = kcell (peer c, .bar) ∧ u = ()
  · exact Or.inl hg.1
  · rw [if_neg hg] at h; exact Or.inr (debt_pos (l := [0, 1, 2, 3]) (u := u) h)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The order of waiting: staging and send cells, then the barrier, then the receive cells. -/
def level : Option Slot → ℕ
  | some .bar => 1
  | some (.recv _) => 2
  | _ => 0
def lv (g : GSem nD τ sig) (_ : Unit) : ℕ := level (slotOf g.2)

theorem lv_cell (c : Dev nD) (k : Slot) (u : Unit) : lv (kcell (c, k)) u = level (some k) := congrArg level (slotOf_semOf k)

omit [FloatOps F] in
/-- A device may wait at a level below all that it owes. -/
theorem mayWait_below (c : Dev nD) (sm : SemLoc sig) (n : ℕ) (O : CellTallies nD τ sig Unit) (hs : lv ((c : Thread nD τ), sm) () ≤ n)
    (hO : ∀ g u, 0 < O g u → ∃ d k, g = kcell (d, k) ∧ n < level (some k)) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hs)
    (fun g u hg => by obtain ⟨d, k, rfl, h⟩ := hO g u hg; rw [lv_cell]; exact h)

omit [FloatOps F] in
/-- The barrier may be waited on with the four copies still owed. -/
theorem mayWait_bar (c : Dev nD) (l : List (Fin 4)) : (levAts L lv : sProp 𝕄) ⊢ MayWait (c : Thread nD τ) (semOf .bar) () (debt c l) :=
  mayWait_below c _ 1 _ (le_of_eq (lv_cell c .bar ())) fun g u hg => by
    obtain ⟨i, rfl⟩ := debt_pos hg
    exact ⟨_, _, rfl, Nat.lt_succ_self 1⟩

omit [FloatOps F] in
/-- A cell outside the exchange may be waited on with everything owed. -/
theorem mayWait_stage (c : Dev nD) (sm : SemLoc sig) (hs : ∀ k, semOf k ≠ sm) : (levAts L lv : sProp 𝕄) ⊢ MayWait (c : Thread nD τ) sm () (O₀ c) :=
  mayWait_below c _ 0 _ (le_of_eq (by
      have : slotOf sm = none := by unfold slotOf; exact dif_neg fun ⟨k, h⟩ => hs k h
      show level (slotOf sm) = 0
      rw [this]; rfl)) fun g u hg => by
    rcases O₀_pos hg with rfl | ⟨i, rfl⟩
    · exact ⟨_, _, rfl, Nat.one_pos⟩
    · exact ⟨_, _, rfl, Nat.two_pos⟩

end Cert.KernelIdealRun

end
-- ==== Proof.KernelIdealRun.Body.lean ====
/-
  The kernel's body on one device, from the exchange's resources to the result block.

  The body is straight-line code over four chunks. Each of its steps — copying a chunk of `x` into the send buffer,
  sending a chunk, waiting on a semaphore, adding a chunk — is one lemma over any chunk; `sound_body` applies them in
  program order.
-/
module

public import proofs.«01_k».proof.Proof.KernelIdealRun.Protocol

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def 𝒱₀ : Variants := Variants.none

/-! ## Splitting over the semaphores and over the chunks -/

omit [FloatOps F] in
theorem over_chunks (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem over_slots (Φ : Slot → sProp 𝕄) :
    bigSep Finset.univ Φ = iprop(Φ .bar ∗ Φ (.send 0) ∗ Φ (.send 1) ∗ Φ (.send 2) ∗ Φ (.send 3)
      ∗ Φ (.recv 0) ∗ Φ (.recv 1) ∗ Φ (.recv 2) ∗ Φ (.recv 3)) :=
  bigSep_univ_eq_bigSepL slots rfl (by decide) Φ

/-! ## What a device holds -/

/-- Names under which the invariants of all cells were allocated, and that each cell is at its first round. -/
def records (K : Dev nD × Slot → ℕ) : sProp 𝕄 :=
  bigSep Finset.univ fun ck : Dev nD × Slot => iprop(cellInv ER (sched m ρ) (K ck) (kcell ck) ∗ reached ER (kcell ck) 0)

instance records_persistent (K : Dev nD × Slot → ℕ) : BI.Persistent (records m ρ K) := by unfold records; infer_instance

theorem records_at (K : Dev nD × Slot → ℕ) (ck : Dev nD × Slot) :
    records m ρ K ⊢ iprop(cellInv ER (sched m ρ) (K ck) (kcell ck) ∗ reached ER (kcell ck) 0) :=
  bigSep_elim (Finset.mem_univ ck)

/-- The device whose cell `k` device `c` credits: its own for a send cell, its partner's otherwise. -/
def paid (c : Dev nD) : Slot → Dev nD
  | .send _ => c
  | _ => peer c

/-- Of each cell: that device `c`'s own is at its start, and the right to credit the one it pays. -/
def post (c : Dev nD) (k : Slot) : sProp 𝕄 :=
  iprop(atPos ER (kcell (c, k)) 0 ∅ 0 ∗ dutyTok ER (kcell (paid c k, k)) 0 ())

/-- What the cells of device `c` are to be credited by its partner. -/
def credits (c : Dev nD) : sProp 𝕄 :=
  iprop(cred (tallyAt (kcell (c, .bar)) () (amt .bar)) ∗ bigSep Finset.univ fun i : Fin 4 => cred (tallyAt (kcell (c, .recv i)) () (amt (.recv i))))

/-- What device `c` starts the exchange with. -/
def start (c : Dev nD) : sProp 𝕄 :=
  iprop((∃ K, records m ρ K ∗ bigSep Finset.univ (post c)) ∗ credits c ∗ levAts L lv)

def Φ₀ (c : Dev nD) : sProp 𝕄 := iprop(start m ρ c ∗ (∃ f, wholePts c sM f) ∗ ∃ f, wholePts c rM f)
def Φ₁ (c : Dev nD) : sProp 𝕄 :=
  iprop((∃ f, wholePts c sM f) ∗ (∃ f, wholePts c rM f) ∗ bigSep Finset.univ fun k : Slot => semVal (kcell (c, k)) 0)

/-- The call's contents: the staged block of `x`, the result block, the exchange's resources before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The steps -/

/-- Device `c`'s staged block of `x`. -/
def xPts (c : Dev nD) : sProp 𝕄 := (c : Thread nD τ).loc cc0_stg0_0 ↦{fullShare} xstg m ρ c

/-- Device `c` owes `O`, whatever waits it has made. -/
def owing (c : Dev nD) (O : CellTallies nD τ sig Unit) : sProp 𝕄 := iprop(∃ W, owes (c : Thread nD τ) O W)

section Steps
variable (K : Dev nD × Slot → ℕ) (c : Dev nD) (i : Fin 4)

/-- Loading the piece of `x` at given offsets. -/
theorem wp_piece {α : Type} {Q : α → sProp 𝕄} (o o' : Fin 3 → ℕ) (ho : o = o') {h : ∀ a, o a + S1x128x512.size a ≤ S1x512x1024.size a}
    (h' : ∀ a, o' a + S1x128x512.size a ≤ S1x512x1024.size a)
    {hl : (xM : Memref sig .tc .vmem S1x512x1024 .bf16).view.LoadsAt (Rect.unit (s := S1x512x1024) o S1x128x512.size h).toLoadRect}
    {k : Vec F S1x128x512 .bf16 → Prog (TpuEff nD τ sig (Elt F) Λ₀ .tc) α} :
    xPts m ρ c ⊢ iprop((xPts m ρ c -∗ wp frame (wpE (defs₀ (F := F)) 𝒱₀ (c : Thread nD τ) none) Set.univ (k (piece m ρ c o' h')) Q)
      -∗ wp frame (wpE (defs₀ (F := F)) 𝒱₀ (c : Thread nD τ) none) Set.univ
          (.op (.load xM (Rect.unit (s := S1x512x1024) o S1x128x512.size h).toLoadRect hl) k) Q) := by
  subst ho
  exact wp_load 𝒱₀ (c : Thread nD τ) none Set.univ (m := xM) (Finset.subset_univ _)

/-- Loading a chunk. -/
theorem wp_chunk {α : Type} {Q : α → sProp 𝕄} (b : Memref sig .tc .vmem S512x512 .bf16) (f : Buf (Elt F) ((chunk b i).view.loc (c : Thread nD τ)))
    {hl : b.view.LoadsAt (rows i).toLoadRect} {k : Vec F S128x512 .bf16 → Prog (TpuEff nD τ sig (Elt F) Λ₀ .tc) α} :
    (chunkPts c b i f : sProp 𝕄) ⊢ iprop((chunkPts c b i f -∗ wp frame (wpE (defs₀ (F := F)) 𝒱₀ (c : Thread nD τ) none) Set.univ
        (k ((chunk b i).view.read (Elt F) f)) Q)
      -∗ wp frame (wpE (defs₀ (F := F)) 𝒱₀ (c : Thread nD τ) none) Set.univ (.op (.load b (rows i).toLoadRect hl) k) Q) :=
  wp_load_rect 𝒱₀ (c : Thread nD τ) none Set.univ (m := b) (r := rows i) (Finset.Subset.refl _)

/-- Storing a chunk. -/
theorem wp_put {α : Type} {Q : α → sProp 𝕄} (b : Memref sig .tc .vmem S512x512 .bf16) (f : Buf (Elt F) ((chunk b i).view.loc (c : Thread nD τ)))
    (X : S128x512.Idx → Elt F .bf16) {hx : (b.access (rows i)).Stores Finset.univ}
    {hm : (Finset.univ : Finset (rows i).shape.Idx) = Finset.univ ∨ ∀ a, (rows i).stride a = 1}
    {k : PUnit → Prog (TpuEff nD τ sig (Elt F) Λ₀ .tc) α} :
    (chunkPts c b i f : sProp 𝕄) ⊢ iprop((held c b i X -∗ wp frame (wpE (defs₀ (F := F)) 𝒱₀ (c : Thread nD τ) none) Set.univ (k ⟨⟩) Q)
      -∗ wp frame (wpE (defs₀ (F := F)) 𝒱₀ (c : Thread nD τ) none) Set.univ (.op (.store b (rows i) X Finset.univ hx hm) k) Q) := by
  iintro H HK
  iapply (wp_store 𝒱₀ (c : Thread nD τ) none Set.univ (m := b) (r := rows i) (Mk := Finset.univ) (f := f)
    (S := (chunk b i).view.set) (Finset.Subset.refl _)) $$ H
  iintro H
  iapply HK
  iapply (held_of_read c b i _ X (View.read_write_univ (v := (chunk b i).view) f X))
  iexact H

/-- A chunk of the half to send goes into the send buffer. -/
theorem wp_stage {α : Type} {Q : α → sProp 𝕄} (p : Vec F S1x128x512 .bf16 → S128x512.Idx → Elt F .bf16) (hp : p = k0_pay1) (r : Fin 2 → ℕ) (hri : r = rowOff i)
    {hr : ∀ a, r a + S128x512.size a ≤ S512x512.size a} (o : Fin 3 → ℕ) (ho : o = sentOff c i) {h : ∀ a, o a + S1x128x512.size a ≤ S1x512x1024.size a}
    {hl : (xM : Memref sig .tc .vmem S1x512x1024 .bf16).view.LoadsAt (Rect.unit (s := S1x512x1024) o S1x128x512.size h).toLoadRect}
    {hl' : (sM : Memref sig .tc .vmem S512x512 .bf16).view.LoadsAt (Rect.unit (s := S512x512) r S128x512.size hr).toLoadRect}
    {hx : ((sM : Memref sig .tc .vmem S512x512 .bf16).access (Rect.unit (s := S512x512) r S128x512.size hr)).Stores Finset.univ}
    {hm : (Finset.univ : Finset (Rect.unit (s := S512x512) r S128x512.size hr).shape.Idx) = Finset.univ ∨ ∀ a, (Rect.unit (s := S512x512) r S128x512.size hr).stride a = 1}
    {k : Vec F S1x128x512 .bf16 → PUnit → Prog (TpuEff nD τ sig (Elt F) Λ₀ .tc) α} (f : Buf (Elt F) ((chunk sM i).view.loc (c : Thread nD τ))) :
    iprop(xPts m ρ c ∗ chunkPts c sM i f)
      ⊢ iprop(((xPts m ρ c ∗ held c sM i (sentVal m ρ c i))
            -∗ wp frame (wpE (defs₀ (F := F)) 𝒱₀ (c : Thread nD τ) none) Set.univ (k (piece m ρ c (sentOff c i) (sentOff_inb c i)) ⟨⟩) Q)
          -∗ wp frame (wpE (defs₀ (F := F)) 𝒱₀ (c : Thread nD τ) none) Set.univ
              (.op (.load xM (Rect.unit (s := S1x512x1024) o S1x128x512.size h).toLoadRect hl) fun v =>
                .op (.load sM (Rect.unit (s := S512x512) r S128x512.size hr).toLoadRect hl') fun _ => .op (.store sM (Rect.unit (s := S512x512) r S128x512.size hr) (p v) Finset.univ hx hm) (k v)) Q) := by
  subst hp hri
  iintro ⟨Hx, H⟩ HK
  iapply (wp_piece m ρ c o _ ho (sentOff_inb c i)) $$ Hx
  iintro Hx
  iapply (wp_chunk c i sM f) $$ H
  iintro H
  iapply (wp_put c i sM f _) $$ H
  iintro H
  iapply HK
  isplitl [Hx]; · iexact Hx
  iexact H

/-- A chunk that landed and the same chunk of the half kept are added into the result block. -/
theorem wp_add {α : Type} {Q : α → sProp 𝕄} (p : Vec F S1x128x512 .bf16 → Vec F S128x512 .bf16 → S128x512.Idx → Elt F .bf16) (hp : p = k0_pay5)
    (r : Fin 2 → ℕ) (hri : r = rowOff i) {hr : ∀ a, r a + S128x512.size a ≤ S512x512.size a}
    (o : Fin 3 → ℕ) (ho : o = keptOff c i) {h : ∀ a, o a + S1x128x512.size a ≤ S1x512x1024.size a}
    {hl : (xM : Memref sig .tc .vmem S1x512x1024 .bf16).view.LoadsAt (Rect.unit (s := S1x512x1024) o S1x128x512.size h).toLoadRect}
    {hl' : (rM : Memref sig .tc .vmem S512x512 .bf16).view.LoadsAt (Rect.unit (s := S512x512) r S128x512.size hr).toLoadRect}
    {hl'' : (oM : Memref sig .tc .vmem S512x512 .bf16).view.LoadsAt (Rect.unit (s := S512x512) r S128x512.size hr).toLoadRect}
    {hx : ((oM : Memref sig .tc .vmem S512x512 .bf16).access (Rect.unit (s := S512x512) r S128x512.size hr)).Stores Finset.univ}
    {hm : (Finset.univ : Finset (Rect.unit (s := S512x512) r S128x512.size hr).shape.Idx) = Finset.univ ∨ ∀ a, (Rect.unit (s := S512x512) r S128x512.size hr).stride a = 1}
    {k : PUnit → Prog (TpuEff nD τ sig (Elt F) Λ₀ .tc) α} (f : Buf (Elt F) ((chunk oM i).view.loc (c : Thread nD τ))) :
    iprop(xPts m ρ c ∗ pay m ρ c (.recv i) ∗ chunkPts c oM i f)
      ⊢ iprop(((xPts m ρ c ∗ pay m ρ c (.recv i) ∗ held c oM i (outVal m ρ c i))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S1x512x1024) o S1x128x512.size h).toLoadRect hl) fun v =>
                .op (.load rM (Rect.unit (s := S512x512) r S128x512.size hr).toLoadRect hl') fun w => .op (.load oM (Rect.unit (s := S512x512) r S128x512.size hr).toLoadRect hl'') fun _ =>
                  .op (.store oM (Rect.unit (s := S512x512) r S128x512.size hr) (p v w) Finset.univ hx hm) k) Q) := by
  subst hp hri
  unfold pay
  iintro ⟨Hx, Hr, H⟩ HK
  iapply (wp_piece m ρ c o _ ho (keptOff_inb c i)) $$ Hx
  iintro Hx
  iapply (wp_chunk c i rM _) $$ Hr
  iintro Hr
  iapply (wp_chunk c i oM f) $$ H
  iintro H
  rw [View.read_rep]
  iapply (wp_put c i oM f _) $$ H
  iintro H
  iapply HK
  isplitl [Hx]; · iexact Hx
  isplitl [Hr]; · iexact Hr
  iexact H

/-- A chunk of the send buffer is sent into the partner's receive buffer. -/
theorem wp_copy {α : Type} {Q : α → sProp 𝕄} (l : List (Fin 4)) (n : Dev nD) (hn : n = peer c)
    {hsc : (chunk rM i : Memref sig (Dev.tc n : Thread nD τ).2.kind .vmem S128x512 .bf16).view.ref.isScScratch = false}
    {hsrc : (chunk sM i).view.WordExact} {hdst : (chunk rM i).view.WordExact}
    {hsem : DmaTarget.Typed .vmem (.dma (recvS i)) (.remote (Dev.tc n : Thread nD τ) (chunk rM i) (.dma (sendS i)) hsc)}
    {k : PUnit → Prog (TpuEff nD τ sig (Elt F) Λ₀ .tc) α} (f : Buf (Elt F) ((chunk rM i).view.loc (peer c : Thread nD τ))) :
    iprop(records m ρ K ∗ held c sM i (sentVal m ρ c i) ∗ chunkPts (peer c) rM i f ∗ owing c (debt c (i :: l))
        ∗ dutyTok ER (kcell (c, .send i)) 0 () ∗ dutyTok ER (kcell (peer c, .recv i)) 0 ())
      ⊢ iprop(((cred (tallyAt (kcell (c, .send i)) () (amt (.send i))) ∗ owing c (debt c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunk sM i) (.remote (Dev.tc n : Thread nD τ) (chunk rM i) (.dma (sendS i)) hsc) (.dma (recvS i)) hsrc hdst hsem) k) Q) := by
  subst hn
  unfold owing
  iintro ⟨#Hrec, Hs, Hr, ⟨%W, HO⟩, HtS, HtR⟩ HK
  ihave HS := (records_at m ρ K (c, .send i)) $$ Hrec
  ihave HR := (records_at m ρ K (peer c, .recv i)) $$ Hrec
  icases HS with ⟨#HIs, #Hrs⟩
  icases HR with ⟨#HIr, #Hrr⟩
  iapply (Rounds.wp_send_pointsTo 𝒱₀ ER (sched m ρ) (c : Thread nD τ) none (κ₁ := K (c, .send i)) (κ₂ := K (peer c, .recv i))
    (r₁ := 0) (r₂ := 0) (d₁ := ()) (d₂ := ()) (fd := f)
    (mem_duties m ρ c (.send i)) (mem_duties m ρ (peer c) (.recv i))
    () () N rfl (amount_cell m ρ c (.send i)) (amount_cell m ρ (peer c) (.recv i)) (debt c l) rfl (W := W)
    (by rw [payload_cell]; exact BI.Entails.refl _)
    (by
      rw [payload_cell]
      refine held_of_read (peer c) rM i _ _ ?_
      rw [View.read_write_univ, View.read_rep, peer_peer])) $$ [Hs Hr HO HtS HtR]
  · isplitr; · iexact HIs
    isplitr; · iexact HIr
    isplitl [Hs]; · iexact Hs
    isplitl [Hr]; · iexact Hr
    isplitl [HO]; · iexact HO
    isplitl [HtS]; · iexact HtS
    isplitr; · iexact Hrs
    isplitl [HtR]; · iexact HtR
    iexact Hrr
  iintro ⟨HcS, HO⟩
  iapply HK
  isplitl [HcS]; · iexact HcS
  iexists W; iexact HO

/-- A wait for one of the exchange's semaphores takes what its cell hands over and leaves the counter at zero. -/
theorem wp_take {α : Type} {Q : α → sProp 𝕄} (k : Slot) (O : CellTallies nD τ sig Unit) (hO : (levAts L lv : sProp 𝕄) ⊢ MayWait (c : Thread nD τ) (semOf k) () O)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (semOf k) (amt k) P)
    {kk : PUnit → Prog (TpuEff nD τ sig (Elt F) Λ₀ .tc) α} :
    iprop(records m ρ K ∗ levAts L lv ∗ cred (tallyAt (kcell (c, k)) () (amt k)) ∗ owing c O ∗ atPos ER (kcell (c, k)) 0 ∅ 0)
      ⊢ iprop(((owing c O ∗ semVal (kcell (c, k)) 0 ∗ pay m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold owing
  iintro ⟨#Hrec, #Hlev, Hc, ⟨%W, HO⟩, Hat⟩ HK
  ihave HI := (records_at m ρ K (c, k)) $$ Hrec
  icases HI with ⟨#HI, -⟩
  iapply (Rounds.wp_wait_rest_token 𝒱₀ ER (sched m ρ) (c : Thread nD τ) none (κ := K (c, k)) hw (Set.mem_univ _) () (O := O) (W := W)
      (R := 0) (m := 0) (T := ∅) (by rw [Nat.zero_add, expect_cell])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hpay := (Entails.of_eq (rest_cell m ρ c k)) $$ Hpay
  imod (Rounds.cell_close ER (sched m ρ) (Set.mem_univ (K (c, k))) (fun h => h) (R := 0 + 1) (duties_later m ρ (kcell (c, k)))) $$ [Hat] with Hz
  · isplitr; · iexact HI
    iexact Hat
  iapply HK
  isplitl [HO]; · iexists _; iexact HO
  isplitl [Hz]; · iexact Hz
  iexact Hpay

omit [FloatOps F] in
/-- A device that owes nothing may wait. -/
theorem mayWait_free (k : Slot) : (levAts L lv : sProp 𝕄) ⊢ MayWait (c : Thread nD τ) (semOf k) () 0 := by
  rw [MayWait_zero]; iintro -; iempintro

/-- The wait for the partner's readiness. -/
theorem wp_take_bar {α : Type} {Q : α → sProp 𝕄} {kk : PUnit → Prog (TpuEff nD τ sig (Elt F) Λ₀ .tc) α} :
    iprop(records m ρ K ∗ levAts L lv ∗ cred (tallyAt (kcell (c, .bar)) () (amt .bar)) ∗ owing c (debt c [0, 1, 2, 3]) ∗ atPos ER (kcell (c, .bar)) 0 ∅ 0)
      ⊢ iprop(((owing c (debt c [0, 1, 2, 3]) ∗ semVal (kcell (c, .bar)) 0 ∗ pay m ρ c .bar)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 1) kk) Q) :=
  wp_take m ρ K c .bar _ (mayWait_bar c _) (wpE_semWait_eq 𝒱₀ (c : Thread nD τ) none Set.univ)

/-- The wait for the partner's copy of a chunk. -/
theorem wp_take_recv {α : Type} {Q : α → sProp 𝕄} {hsrc : (chunk sM i).view.WordExact} {hdst : (chunk rM i).view.WordExact}
    {kk : PUnit → Prog (TpuEff nD τ sig (Elt F) Λ₀ .tc) α} :
    iprop(records m ρ K ∗ levAts L lv ∗ cred (tallyAt (kcell (c, .recv i)) () (amt (.recv i))) ∗ owing c 0 ∗ atPos ER (kcell (c, .recv i)) 0 ∅ 0)
      ⊢ iprop(((owing c 0 ∗ semVal (kcell (c, .recv i)) 0 ∗ pay m ρ c (.recv i))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvS i) (chunk sM i) (chunk rM i) hsrc hdst) kk) Q) :=
  wp_take m ρ K c (.recv i) _ (mayWait_free c _) (w := .waitDma2 (recvS i) (chunk sM i) (chunk rM i) hsrc hdst)
    (wpE_waitDma2_eq 𝒱₀ (c : Thread nD τ) none Set.univ)

/-- The wait for the device's own copy of a chunk to have left. -/
theorem wp_take_send {α : Type} {Q : α → sProp 𝕄} {hsrc : (chunk rM i).view.WordExact} {hdst : (chunk sM i).view.WordExact}
    {kk : PUnit → Prog (TpuEff nD τ sig (Elt F) Λ₀ .tc) α} :
    iprop(records m ρ K ∗ levAts L lv ∗ cred (tallyAt (kcell (c, .send i)) () (amt (.send i))) ∗ owing c 0 ∗ atPos ER (kcell (c, .send i)) 0 ∅ 0)
      ⊢ iprop(((owing c 0 ∗ semVal (kcell (c, .send i)) 0 ∗ pay m ρ c (.send i))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sendS i) (chunk rM i) (chunk sM i) hsrc hdst) kk) Q) :=
  wp_take m ρ K c (.send i) _ (mayWait_free c _) (w := .waitDma2 (sendS i) (chunk rM i) (chunk sM i) hsrc hdst)
    (wpE_waitDma2_eq 𝒱₀ (c : Thread nD τ) none Set.univ)

/-- The signal to the partner's barrier hands over the receive buffer. -/
theorem wp_ready {α : Type} {Q : α → sProp 𝕄} (n : Dev nD) (hn : n = peer c) {kk : PUnit → Prog (TpuEff nD τ sig (Elt F) Λ₀ .tc) α} :
    iprop(records m ρ K ∗ (∃ f, wholePts c rM f) ∗ owing c (O₀ c) ∗ dutyTok ER (kcell (peer c, .bar)) 0 ())
      ⊢ iprop((owing c (debt c [0, 1, 2, 3]) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS 1) kk) Q) := by
  subst hn
  unfold owing
  iintro ⟨#Hrec, Hr, ⟨%W, HO⟩, Ht⟩ HK
  ihave HI := (records_at m ρ K (peer c, .bar)) $$ Hrec
  icases HI with ⟨#HI, #Hre⟩
  iapply (Rounds.wp_signal 𝒱₀ ER (sched m ρ) (c : Thread nD τ) none (dst := (peer c : Thread nD τ)) (κ := K (peer c, .bar))
      (d := ()) (mem_duties m ρ (peer c) .bar) (amount_cell m ρ (peer c) .bar) () (debt c [0, 1, 2, 3]) rfl) $$ [HO Ht Hr]
  · isplitr; · iexact HI
    isplitl [HO]; · iexact HO
    isplitl [Ht]; · iexact Ht
    isplitl [Hr]
    · iapply (Entails.of_eq (payload_cell m ρ (peer c) .bar).symm); unfold pay; rw [peer_peer]; iexact Hr
    iexact Hre
  iintro HO
  iapply HK
  iexists W; iexact HO

end Steps

/-! ## The body -/

/-- A staging buffer held at the contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

omit [FloatOps F] in
/-- Holding a whole buffer, as the view of it and by its location. -/
theorem whole_eq (c : Dev nD) (b : Ref sig .tc) (f : b.ty.Contents (Elt F)) :
    ((Memref.whole b).view.loc (c : Thread nD τ) ↦[(Memref.whole b).view.set]{fullShare} f : sProp 𝕄)
      = ((c : Thread nD τ).loc b ↦{fullShare} f) := by
  simp only [Memref.view_whole, View.set_whole]

/-- Chunks held at any values join to the buffer. -/
theorem chunks_any (c : Dev nD) (b : Memref sig .tc .vmem S512x512 .bf16) (V : Fin 4 → S128x512.Idx → Elt F .bf16)
    (f₀ : Buf (Elt F) (b.view.loc (c : Thread nD τ))) :
    (bigSep Finset.univ fun i : Fin 4 => held c b i (V i) : sProp 𝕄) ⊢ iprop(∃ g, wholePts c b g) := by
  iintro H
  ihave H := (chunks_join c b V f₀) $$ H
  icases H with ⟨%g, -, H⟩
  iexists g; iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 800000 in
/-- The body runs from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start credits post
  simp only [over_slots, over_chunks, paid]
  iintro ⟨⟨⟨⟨⟨%K, #Hrec, ⟨HaB, HtB⟩, ⟨HaS0, HtS0⟩, ⟨HaS1, HtS1⟩, ⟨HaS2, HtS2⟩, ⟨HaS3, HtS3⟩, ⟨HaR0, HtR0⟩, ⟨HaR1, HtR1⟩, ⟨HaR2, HtR2⟩, ⟨HaR3, HtR3⟩⟩,
    ⟨HcB, HcR0, HcR1, HcR2, HcR3⟩, #Hlev⟩, ⟨%fs, Hs⟩, Hr⟩, Ho, ⟨%d0, %g0, %hg0, Hx⟩, ⟨%d1, %g1, %hg1, Hout⟩⟩, Hk⟩
  have hx : g0 = xstg m ρ c := by rw [hg0]; unfold Dat.before; rw [if_pos (show (cfg0.win (0 : Fin 2)).fetch t0_0 = true by decide)]; rfl
  subst hx
  unfold Dat.owesAt Pipeline.owesWithin
  icases Ho with ⟨%W, %hW, HO⟩
  rw [show (dats m ρ 0 c).owed t0_0.castSucc = O₀ c from rfl]
  ihave HO : owing c (O₀ c) $$ [HO]
  · unfold owing; iexists W; iexact HO
  ihave Hx := (Entails.of_eq (show ((c : Thread nD τ).loc cc0_stg0_0 ↦{fullShare} xstg m ρ c : sProp 𝕄) = xPts m ρ c from rfl)) $$ Hx
  ihave Hs := (Entails.of_eq ((chunks_split c sM fs).trans (over_chunks _))) $$ Hs
  icases Hs with ⟨Hs0, Hs1, Hs2, Hs3⟩
  ihave Hout := (Entails.of_eq ((whole_eq c cc0_stg1_0 g1).symm.trans ((chunks_split c oM g1).trans (over_chunks _)))) $$ Hout
  icases Hout with ⟨Hu0, Hu1, Hu2, Hu3⟩
  -- the receive buffer is handed to the partner
  iapply (wp_ready m ρ K c _ (Fin.ext (addr_eq c (k0_dev1_eq c)))) $$ [Hr HO HtB]
  · isplitr; · iexact Hrec
    iframe
  iintro HO
  -- the half to send is copied
  iapply (wp_stage m ρ c 0 (k0_pay1 (F := F)) rfl ![0, 0] rfl _ (k0_off1_eq c) fs) $$ [Hx Hs0]; · iframe
  iintro ⟨Hx, Hs0⟩
  iapply (wp_stage m ρ c 1 (k0_pay2 (F := F)) rfl ![128, 0] rfl _ (k0_off2_eq c) fs) $$ [Hx Hs1]; · iframe
  iintro ⟨Hx, Hs1⟩
  iapply (wp_stage m ρ c 2 (k0_pay3 (F := F)) rfl ![256, 0] rfl _ (k0_off3_eq c) fs) $$ [Hx Hs2]; · iframe
  iintro ⟨Hx, Hs2⟩
  iapply (wp_stage m ρ c 3 (k0_pay4 (F := F)) rfl ![384, 0] rfl _ (k0_off4_eq c) fs) $$ [Hx Hs3]; · iframe
  iintro ⟨Hx, Hs3⟩
  -- the partner's receive buffer comes with the barrier
  iapply (wp_take_bar m ρ K c) $$ [HcB HO HaB]
  · isplitr; · iexact Hrec
    isplitr; · iexact Hlev
    iframe
  unfold pay
  iintro ⟨HO, HzB, ⟨%fr, Hr⟩⟩
  ihave Hr := (Entails.of_eq ((chunks_split (peer c) rM fr).trans (over_chunks _))) $$ Hr
  icases Hr with ⟨Hr0, Hr1, Hr2, Hr3⟩
  iapply (wp_copy m ρ K c 0 [1, 2, 3] _ (Fin.ext (addr_eq c (k0_dev2_eq c))) fr) $$ [Hs0 Hr0 HO HtS0 HtR0]
  · isplitr; · iexact Hrec
    iframe
  iintro ⟨HcS0, HO⟩
  iapply (wp_copy m ρ K c 1 [2, 3] _ (Fin.ext (addr_eq c (k0_dev3_eq c))) fr) $$ [Hs1 Hr1 HO HtS1 HtR1]
  · isplitr; · iexact Hrec
    iframe
  iintro ⟨HcS1, HO⟩
  iapply (wp_copy m ρ K c 2 [3] _ (Fin.ext (addr_eq c (k0_dev4_eq c))) fr) $$ [Hs2 Hr2 HO HtS2 HtR2]
  · isplitr; · iexact Hrec
    iframe
  iintro ⟨HcS2, HO⟩
  iapply (wp_copy m ρ K c 3 [] _ (Fin.ext (addr_eq c (k0_dev5_eq c))) fr) $$ [Hs3 Hr3 HO HtS3 HtR3]
  · isplitr; · iexact Hrec
    iframe
  iintro ⟨HcS3, HO⟩
  ihave HO := (Entails.of_eq (show (owing c (debt c []) : sProp 𝕄) = owing c 0 from rfl)) $$ HO
  -- each chunk that lands is added to the half kept
  iapply (wp_take_recv m ρ K c 0) $$ [HcR0 HO HaR0]
  · isplitr; · iexact Hrec
    isplitr; · iexact Hlev
    iframe
  iintro ⟨HO, HzR0, Hr0⟩
  iapply (wp_add m ρ c 0 (k0_pay5 (F := F)) rfl ![0, 0] rfl _ (k0_off5_eq c) g1) $$ [Hx Hr0 Hu0]; · iframe
  iintro ⟨Hx, Hr0, Hu0⟩
  iapply (wp_take_recv m ρ K c 1) $$ [HcR1 HO HaR1]
  · isplitr; · iexact Hrec
    isplitr; · iexact Hlev
    iframe
  iintro ⟨HO, HzR1, Hr1⟩
  iapply (wp_add m ρ c 1 (k0_pay6 (F := F)) rfl ![128, 0] rfl _ (k0_off6_eq c) g1) $$ [Hx Hr1 Hu1]; · iframe
  iintro ⟨Hx, Hr1, Hu1⟩
  iapply (wp_take_recv m ρ K c 2) $$ [HcR2 HO HaR2]
  · isplitr; · iexact Hrec
    isplitr; · iexact Hlev
    iframe
  iintro ⟨HO, HzR2, Hr2⟩
  iapply (wp_add m ρ c 2 (k0_pay7 (F := F)) rfl ![256, 0] rfl _ (k0_off7_eq c) g1) $$ [Hx Hr2 Hu2]; · iframe
  iintro ⟨Hx, Hr2, Hu2⟩
  iapply (wp_take_recv m ρ K c 3) $$ [HcR3 HO HaR3]
  · isplitr; · iexact Hrec
    isplitr; · iexact Hlev
    iframe
  iintro ⟨HO, HzR3, Hr3⟩
  iapply (wp_add m ρ c 3 (k0_pay8 (F := F)) rfl ![384, 0] rfl _ (k0_off8_eq c) g1) $$ [Hx Hr3 Hu3]; · iframe
  iintro ⟨Hx, Hr3, Hu3⟩
  -- the device's own copies have left
  iapply (wp_take_send m ρ K c 0) $$ [HcS0 HO HaS0]
  · isplitr; · iexact Hrec
    isplitr; · iexact Hlev
    iframe
  iintro ⟨HO, HzS0, Hs0⟩
  iapply (wp_take_send m ρ K c 1) $$ [HcS1 HO HaS1]
  · isplitr; · iexact Hrec
    isplitr; · iexact Hlev
    iframe
  iintro ⟨HO, HzS1, Hs1⟩
  iapply (wp_take_send m ρ K c 2) $$ [HcS2 HO HaS2]
  · isplitr; · iexact Hrec
    isplitr; · iexact Hlev
    iframe
  iintro ⟨HO, HzS2, Hs2⟩
  iapply (wp_take_send m ρ K c 3) $$ [HcS3 HO HaS3]
  · isplitr; · iexact Hrec
    isplitr; · iexact Hlev
    iframe
  iintro ⟨HO, HzS3, Hs3⟩
  rw [wp_ret]; imodintro; iapply Hk
  unfold bodyPost Φ₁ owing Dat.owesAt Pipeline.owesWithin
  icases HO with ⟨%W', HO⟩
  isplitl [Hs0 Hs1 Hs2 Hs3 Hr0 Hr1 Hr2 Hr3 HzB HzS0 HzS1 HzS2 HzS3 HzR0 HzR1 HzR2 HzR3]
  · isplitl [Hs0 Hs1 Hs2 Hs3]
    · iapply (chunks_any c sM (sentVal m ρ c) fs)
      rw [over_chunks]; unfold pay; iframe
    isplitl [Hr0 Hr1 Hr2 Hr3]
    · iapply (chunks_any c rM (sentVal m ρ (peer c)) fr)
      rw [over_chunks]; unfold pay; iframe
    rw [over_slots]; iframe
  isplitl [HO]
  · iexists W'
    isplitr
    · ipureintro; exact fun _ _ => Or.inl trivial
    iexact HO
  isplitl [Hx]
  · unfold xPts
    iexists _
    isplitr; · ipureintro; rfl
    iexact Hx
  ihave Hout := (chunks_join c oM (outVal m ρ c) g1) $$ [Hu0 Hu1 Hu2 Hu3]
  · rw [over_chunks]; iframe
  icases Hout with ⟨%g, %hg, Hout⟩
  iexists g
  isplitr; · ipureintro; exact hg
  iapply (Entails.of_eq (whole_eq c cc0_stg1_0 g))
  iexact Hout

/-- The body from the resources the call starts with to those it ends with. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3) (fun _ => bodyPost m ρ c)
  iintro H
  iapply (sound_body m ρ c fun _ => bodyPost m ρ c)
  isplitl [H]; · iexact H
  iintro H; iexact H

end Cert.KernelIdealRun

end
-- ==== Proof.KernelIdealRun.Run.lean ====
/-
  The launch and the run.

  Every device's counters start at zero; from them the exchange's cells are set up, all devices at once, and the rights to
  credit them are dealt to the devices that will. With the body of `Body` this gives the run of the whole program: from
  every memory it terminates on every device, with the result arrays at `outAt`, the arguments as they were, and all
  counters at zero.
-/
module

public import proofs.«01_k».proof.Proof.KernelIdealRun.Body
public import Idealize.ShloMosaic.Lib.Pipeline.CollectiveSegs

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The kernel's own semaphores: those of the chunks. -/
abbrev ownSlot : Fin 4 ⊕ Fin 4 → Slot
  | .inl i => .send i
  | .inr i => .recv i
abbrev osem (k : Fin 4 ⊕ Fin 4) : SemLoc sig := semOf (ownSlot k)

theorem ownSemFacts : Pipeline.OwnSemFacts cfg0.spec osem := by decide

theorem share_eq (c : Dev nD) (w : Fin cfg0.W) : (dats m ρ 0 c).share w = fullShare := by unfold Dat.share; split <;> rfl

/-- All cells of the exchange, and the one right to credit each. -/
def allCells : Finset (GSem nD τ sig) := Finset.univ.map ⟨kcell, kcell_injective⟩
def allToks : Finset (GSem nD τ sig × ℕ × Unit) :=
  Finset.univ.map ⟨fun ck : Dev nD × Slot => (kcell ck, 0, ()), fun _ _ h => kcell_injective (congrArg Prod.fst h)⟩

/-- The ghost state the run starts from. -/
def u₀ : UU := (initOf (Pipeline.cells cfgs cellOf_inj) (Pipeline.launchToks cfgs cellOf_inj), initOf allCells allToks)

/-- What each device gets of it for each of its semaphores. -/
def share₀ (c : Dev nD) (k : Slot) : sProp 𝕄 :=
  iprop(roundState ER (sched m ρ) (kcell (c, k)) 0 ∗ reached ER (kcell (c, k)) 0 ∗ atPos ER (kcell (c, k)) 0 ∅ 0 ∗ dutyTok ER (kcell (c, k)) 0 ())
def G (c : Dev nD) : sProp 𝕄 := bigSep Finset.univ (share₀ m ρ c)

/-- What it has of it once the cells are set up. -/
def G' (c : Dev nD) : sProp 𝕄 := iprop(∃ K, records m ρ K ∗ bigSep Finset.univ (post c))

omit [FloatOps F] in
theorem over_cells (Φ : GSem nD τ sig → sProp 𝕄) :
    bigSep allCells Φ = bigSep Finset.univ fun c : Dev nD => bigSep Finset.univ fun k : Slot => Φ (kcell (c, k)) := by
  unfold allCells; rw [bigSep_map, bigSep_univ_prod]; rfl

omit [FloatOps F] in
theorem over_toks (Φ : GSem nD τ sig × ℕ × Unit → sProp 𝕄) :
    bigSep allToks Φ = bigSep Finset.univ fun c : Dev nD => bigSep Finset.univ fun k : Slot => Φ (kcell (c, k), 0, ()) := by
  unfold allToks; rw [bigSep_map, bigSep_univ_prod]; rfl

theorem fund : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst := (Entails.of_eq (over_cells fun g => roundState ER (sched m ρ) g 0)) $$ Hst
  ihave Hr := (Entails.of_eq (over_cells fun g => reached ER g 0)) $$ Hr
  ihave Hat := (Entails.of_eq (over_cells fun g => atPos ER g 0 ∅ 0)) $$ Hat
  ihave Htok := (Entails.of_eq (over_toks fun x => dutyTok ER x.1 x.2.1 x.2.2)) $$ Htok
  unfold G share₀; simp only [bigSep_sep']
  iframe

/-! ## Setting the cells up -/

omit [FloatOps F] in
theorem own_eq (c : Dev nD) : (Pipeline.ownSems0 (Ix := Unit) (Name := ℕ) (U := UU) (Lvl := ℕ) (Val := Elt F) (τ := τ) osem c : sProp 𝕄)
    = iprop(semVal (kcell (c, .send 0)) 0 ∗ semVal (kcell (c, .send 1)) 0 ∗ semVal (kcell (c, .send 2)) 0 ∗ semVal (kcell (c, .send 3)) 0
      ∗ semVal (kcell (c, .recv 0)) 0 ∗ semVal (kcell (c, .recv 1)) 0 ∗ semVal (kcell (c, .recv 2)) 0 ∗ semVal (kcell (c, .recv 3)) 0) := by
  rw [Pipeline.ownSems0_eq_of_list c osem [.inl 0, .inl 1, .inl 2, .inl 3, .inr 0, .inr 1, .inr 2, .inr 3] (by decide) (by decide)]; rfl

omit [FloatOps F] in
theorem unscoped_eq (c : Dev nD) : (unscopedSems0 c : sProp 𝕄) = semVal (kcell (c, .bar)) 0 := by
  unfold unscopedSems0; rw [bigSep_eq_bigSepL_of_eq [SemLoc.reg barS] (by decide) (by decide)]; rfl

omit [FloatOps F] in
/-- The counters of the exchange are the kernel's own and the launch's one other, the barrier. -/
theorem sems_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Slot => semVal (kcell (c, k)) 0 : sProp 𝕄) := by
  rw [own_eq, unscoped_eq, over_slots]
  constructor
  · iintro ⟨⟨H1, H2, H3, H4, H5, H6, H7, H8⟩, HB⟩
    iframe
  · iintro ⟨HB, H1, H2, H3, H4, H5, H6, H7, H8⟩
    iframe

/-- One cell set up: an invariant holds its counter and its round. -/
theorem cell_alloc (c : Dev nD) (k : Slot) :
    iprop(semVal (kcell (c, k)) 0 ∗ share₀ m ρ c k)
      ⊢ |={Set.univ}=> iprop((∃ κ : ℕ, cellInv ER (sched m ρ) κ (kcell (c, k))) ∗ reached ER (kcell (c, k)) 0
          ∗ atPos ER (kcell (c, k)) 0 ∅ 0 ∗ dutyTok ER (kcell (c, k)) 0 ()) := by
  unfold share₀
  iintro ⟨Hv, Hst, Hr, Hat, Ht⟩
  imod ((Rounds.body_intro ER (sched m ρ) (kcell (c, k))).trans inv_alloc) $$ [Hv Hst] with Hinv
  · iframe
  imodintro
  iframe

/-- A device's cells set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> bigSep Finset.univ fun k : Slot => iprop((∃ κ : ℕ, cellInv ER (sched m ρ) κ (kcell (c, k))) ∗ reached ER (kcell (c, k)) 0
          ∗ atPos ER (kcell (c, k)) 0 ∅ 0 ∗ dutyTok ER (kcell (c, k)) 0 ()) := by
  refine BIBase.Entails.trans ?_ ((bigSep_mono fun k _ => cell_alloc m ρ c k).trans (bigSep_fupd _ _))
  unfold G; rw [bigSep_sep']
  iintro ⟨Hos, Hus, HG⟩
  isplitr [HG]
  · iapply (sems_eq (F := F) c).1
    iframe
  iexact HG

omit [FloatOps F] in
/-- The rights to credit, dealt to the devices that will: a send cell's stays, the others' go to the partner. -/
theorem deal : (bigSep Finset.univ fun c : Dev nD => bigSep Finset.univ fun k : Slot => (dutyTok ER (kcell (c, k)) 0 () : sProp 𝕄))
    ⊢ bigSep Finset.univ fun c : Dev nD => bigSep Finset.univ fun k : Slot => dutyTok ER (kcell (paid c k, k)) 0 () := by
  have flip (Φ : Dev nD → Slot → sProp 𝕄) : (bigSep Finset.univ fun c : Dev nD => bigSep Finset.univ fun k : Slot => Φ c k)
      = bigSep Finset.univ fun k : Slot => bigSep Finset.univ fun c : Dev nD => Φ c k := bigSep_univ_comm Φ
  rw [flip, flip]
  refine bigSep_mono fun k _ => ?_
  cases k with
  | send i => exact BI.Entails.refl _
  | bar => exact Entails.of_eq (bigSep_univ_equiv swap (fun c : Dev nD => (dutyTok ER (kcell (c, .bar)) 0 () : sProp 𝕄)))
  | recv i => exact Entails.of_eq (bigSep_univ_equiv swap (fun c : Dev nD => (dutyTok ER (kcell (c, .recv i)) 0 () : sProp 𝕄)))

/-- From the cells of all devices, each device's share. -/
theorem regroup :
    (bigSep Finset.univ fun c : Dev nD => bigSep Finset.univ fun k : Slot => iprop((∃ κ : ℕ, cellInv ER (sched m ρ) κ (kcell (c, k)))
        ∗ reached ER (kcell (c, k)) 0 ∗ atPos ER (kcell (c, k)) 0 ∅ 0 ∗ dutyTok ER (kcell (c, k)) 0 ()) : sProp 𝕄)
      ⊢ bigSep Finset.univ (G' m ρ) := by
  simp only [bigSep_sep']
  rw [← bigSep_univ_prod (fun ck : Dev nD × Slot => iprop(∃ κ : ℕ, cellInv ER (sched m ρ) κ (kcell ck))),
    ← bigSep_univ_prod (fun ck : Dev nD × Slot => (reached ER (kcell ck) 0 : sProp 𝕄))]
  iintro ⟨HI, #HR, Hat, Htok⟩
  ihave HK := (BI.bigSep_exists_pi Finset.univ (fun (ck : Dev nD × Slot) (κ : ℕ) => (cellInv ER (sched m ρ) κ (kcell ck) : sProp 𝕄))) $$ HI
  icases HK with ⟨%K, #HI⟩
  ihave Htok := (deal (F := F)) $$ Htok
  have h : iprop(records m ρ K ∗ bigSep Finset.univ fun c : Dev nD => (bigSep Finset.univ (post c) : sProp 𝕄)) ⊢ bigSep Finset.univ (G' m ρ) := by
    refine (sep_mono_left (BI.bigSep_of_persistent (Finset.univ : Finset (Dev nD)) (records m ρ K))).trans ?_
    rw [← bigSep_sep']
    have h1 (c : Dev nD) : iprop(records m ρ K ∗ bigSep Finset.univ (post c)) ⊢ (G' m ρ c : sProp 𝕄) := by
      unfold G'
      iintro H
      iexists K; iexact H
    exact bigSep_mono fun c _ => h1 c
  iapply h
  unfold records post
  simp only [bigSep_sep']
  isplitr
  · isplitr; · iexact HI
    iexact HR
  iframe

theorem glob : (bigSep Finset.univ fun c =>
      iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

omit [FloatOps F] in
/-- A cell of the exchange is another only if device and semaphore agree. -/
theorem kcell_eq_iff {d c : Dev nD} {j k : Slot} : Iff (kcell (d, j) = kcell (c, k)) (d = c ∧ j = k) :=
  ⟨fun h => ⟨congrArg Prod.fst (kcell_injective h), congrArg Prod.snd (kcell_injective h)⟩, fun h => by rw [h.1, h.2]⟩

/-- What device `d` owes device `c`'s receive cell `i` by the copies in the list. -/
theorem debt_recv (d c : Dev nD) (i : Fin 4) (l : List (Fin 4)) :
    debt d l (kcell (c, .recv i)) () = if d = peer c then l.count i * N else 0 := by
  induction l with
  | nil => simp [debt]
  | cons j l ih =>
    rw [debt, Pi.add_apply, Finsupp.add_apply, ih, tallyAt_apply, List.count_cons]
    by_cases hd : d = peer c
    · by_cases hj : j = i
      · subst hj hd; rw [peer_peer]; simp [Nat.add_mul]
      · have hs : ¬ (kcell (c, Slot.recv i) = kcell (peer d, Slot.recv j) ∧ () = ()) := fun h =>
          hj (Slot.recv.inj (kcell_eq_iff.mp h.1).2).symm
        rw [if_neg hs]
        simp [hd, hj]
    · have : ¬ c = peer d := fun h => hd (by rw [h, peer_peer])
      simp [kcell_eq_iff, hd, this]

theorem debt_bar (d c : Dev nD) (l : List (Fin 4)) : debt d l (kcell (c, .bar)) () = 0 := by
  by_contra h
  obtain ⟨i, hi⟩ := debt_pos (Nat.pos_of_ne_zero h)
  exact absurd (kcell_eq_iff.mp hi).2 (by simp)

/-- The semaphores a device's partner credits. -/
def Credited : Slot → Prop
  | .send _ => False
  | _ => True

/-- What device `d` owes such a cell of device `c`. -/
theorem owed_cell (d c : Dev nD) (k : Slot) (hk : Credited k) : O₀ d (kcell (c, k)) () = if d = peer c then amt k else 0 := by
  rw [O₀, Pi.add_apply, Finsupp.add_apply, tallyAt_apply]
  cases k with
  | send i => exact hk.elim
  | bar =>
    rw [debt_bar, Nat.zero_add]
    by_cases hd : d = peer c
    · subst hd; simp [peer_peer, amt]
    · have : ¬ c = peer d := fun h => hd (by rw [h, peer_peer])
      simp [kcell_eq_iff, hd, this]
  | recv i =>
    rw [debt_recv]
    have hc : List.count i [0, 1, 2, 3] = 1 := (by decide : ∀ i : Fin 4, List.count i [0, 1, 2, 3] = 1) i
    have hs : ¬ (kcell (c, Slot.recv i) = kcell (peer d, Slot.bar) ∧ () = ()) := fun h => absurd (kcell_eq_iff.mp h.1).2 (by simp)
    rw [hc, Nat.one_mul, if_neg hs]
    rfl

theorem launch_cell (c : Dev nD) (k : Slot) (hk : Credited k) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

/-- The semaphores credited, listed. -/
def creditedSlots : Option (Fin 4) ↪ SemLoc sig :=
  ⟨fun o => semOf (o.elim .bar .recv), fun a b h => by
    have h := semOf_injective h
    cases a <;> cases b <;> simp_all⟩

omit [FloatOps F] in
theorem launch_credits (c : Dev nD) : (Pipeline.launchCred O₀ c : sProp 𝕄) ⊢ credits c := by
  unfold Pipeline.launchCred credits
  refine (bigSep_subset (Finset.subset_univ (Finset.univ.map creditedSlots))).trans ?_
  rw [bigSep_map, bigSep_univ_eq_bigSepL [none, some 0, some 1, some 2, some 3] (by decide) (by decide), over_chunks]
  simp only [bigSepL_cons_cons, bigSepL_singleton]
  rw [← launch_cell c .bar trivial, ← launch_cell c (.recv 0) trivial, ← launch_cell c (.recv 1) trivial, ← launch_cell c (.recv 2) trivial,
    ← launch_cell c (.recv 3) trivial]
  exact BI.Entails.refl _

/-! ## Entering and leaving -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_credits (F := F) c) $$ Hcr
  imodintro
  unfold start G'
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iexists f; iapply (Entails.of_eq (whole_eq c cc0_scratch0 f).symm); iexact Hf
  iexists g; iapply (Entails.of_eq (whole_eq c cc0_scratch1 g).symm); iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨⟨%f, Hf⟩, ⟨%g, Hg⟩, Hz⟩
  ihave Hz := (sems_eq (F := F) c).2 $$ Hz
  icases Hz with ⟨Hos, Hus⟩
  isplitl [Hus]; · iexact Hus
  isplitl [Hos]; · iexact Hos
  isplitl [Hf]
  · iexists f; iapply (Entails.of_eq (whole_eq c cc0_scratch0 f)); iexact Hf
  iexists g; iapply (Entails.of_eq (whole_eq c cc0_scratch1 g)); iexact Hg

theorem waits (c : Dev nD) : (levAts L lv : sProp 𝕄) ⊢ Pipeline.cellsWaits cfgs (dats m ρ) () 0 c :=
  Pipeline.cellsWaits_intro cfgs (dats m ρ) () 0 c fun w s t => by
    have hs : ∀ k ∈ slots, semOf k ≠ SemLoc.dma ((cfg0.win w).sem s) := by fin_cases w <;> fin_cases s <;> decide
    rcases t with ⟨_ | _, ht⟩
    · exact mayWait_stage c _ fun k => hs k (mem_slots k)
    · show (levAts L lv : sProp 𝕄) ⊢ MayWait _ _ () 0
      rw [MayWait_zero]; iintro -; iempintro

/-! ## The run -/

/-- The contents of a window's array after the call. -/
def finalA (c : Dev nD) (w : Fin cfg0.W) : Buf (Elt F) ((cfg0.win w).arr.view.loc (c : Thread nD τ)) := (dats m ρ 0 c).arrAt w cfg0.N

/-- Every window's array, on every device, holds those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program terminates from every memory, with the arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result holds the block the body computed. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.KernelIdealRun

end
-- ==== Proof.Value.lean ====
/-
  The kernel's value against the reference's, over exact arithmetic.

  The array `x` has two slices along its first axis. Device `c` holds slice `c / 8`; its result is the columns from
  `512 · (c / 8)` on of its own slice, plus the same columns of the other slice, which its partner sent. The reference adds
  the two slices. Over exact arithmetic addition commutes, so each device's result is its columns of the reference's.
-/
module

public import proofs.«01_k».proof.Proof.KernelIdealRun.Run
public import proofs.«01_k».proof.Proof.Gen.ReferenceIdeal.Run
public import Idealize.ShloMosaic.Lib.Pointwise

@[expose] public section

set_option backward.proofsInPublic true

noncomputable section

namespace Cert.KernelValue

open Cert.KernelIdeal Cert.KernelIdeal.Gen Cert.KernelIdealRun

open Idealize.ShloMosaic Idealize.ShloMosaic.TcCoe Idealize.SL.Sem

/-- The whole array's shape, and the whole result's. -/
abbrev Sx : Shape := ⟨3, ![2, 512, 1024]⟩
abbrev So : Shape := ⟨2, ![512, 1024]⟩

/-- An element of `x`: slice `k`, row `r`, column `l`. -/
def at3 (k r l : ℕ) (hk : k < 2) (hr : r < 512) (hl : l < 1024) : Sx.Idx := fun a =>
  ⟨![k, r, l] a, by fin_cases a <;> assumption⟩

/-- An index with those coordinates is that element's. -/
theorem eq_at3 {k r l : ℕ} (hk : k < 2) (hr : r < 512) (hl : l < 1024) (j : Sx.Idx) (h0 : (j 0).val = k) (h1 : (j 1).val = r)
    (h2 : (j 2).val = l) : j = at3 k r l hk hr hl := by
  funext a; apply Fin.ext
  fin_cases a
  · exact h0
  · exact h1
  · exact h2

/-! ## The reference -/

/-- The reference's result: the two slices added. -/
def total (x : Sx.Idx → Elt Ideal .bf16) : So.Idx → Elt Ideal .bf16 :=
  truncf .bf16 (Host.reduceAdd (extf .f32 (show FVec Ideal ReferenceIdeal.S2x512x1024 .bf16 from x) ReferenceIdeal.Gen.bitsLt_bf16_f32)
    (constant ReferenceIdeal.S_ .f32 0x00000000#32) ReferenceIdeal.Gen.reducesTo_S2x512x1024_S512x1024_d0 ReferenceIdeal.Gen.h_S_)
    ReferenceIdeal.Gen.bitsLt_bf16_f32

theorem total_apply (x : Sx.Idx → EReal) (j : So.Idx) :
    total x j = x (at3 0 (j 0).val (j 1).val (by omega) (j 0).isLt (j 1).isLt) + x (at3 1 (j 0).val (j 1).val (by omega) (j 0).isLt (j 1).isLt) := by
  have h : total x j = Ideal.hostReduceAdd ReferenceIdeal.Gen.reducesTo_S2x512x1024_S512x1024_d0 x (Ideal.ofBits .f32 0x00000000#32) j := rfl
  rw [h, Ideal.hostReduceAdd_r3_a0, Ideal.ofBits_zero_f32, zero_add, Fin.sum_univ_two]
  refine congr (congrArg _ (congrArg x ?_)) (congrArg x ?_) <;> exact eq_at3 _ _ _ _ rfl rfl rfl

/-! ## The kernel -/

variable (m : (ℓ : Loc nD τ sig) → Buf (Elt Ideal) ℓ) (ρ : Dev nD → PrngReg) (x : Sx.Idx → EReal)
  (hx : ∀ c : Dev nD, m ((c.tc : Thread nD τ).loc main_arg0)
    = Layout.blockN ⟨3, ![1, 512, 1024]⟩ Sx (Layout.meshBlock [2, 2, 4] ![[0], [], []] c) x)

/-- What a device stages is its argument. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The slice a device of the 2 × 2 × 4 mesh holds. -/
theorem first_coord (c : Dev nD) : Layout.meshLin [2, 2, 4] c.val [0] = c.val / 8 := by
  revert c; decide

include hx in
/-- A piece of a device's argument holds those rows and columns of the device's slice. -/
theorem piece_apply (c : Dev nD) (i : Fin 4) (l₀ : ℕ) (h : ∀ a, (![0, 128 * i.val, l₀] : Fin 3 → ℕ) a + S1x128x512.size a ≤ S1x512x1024.size a)
    (y : S128x512.Idx) (hc : c.val / 8 < 2) (hr : 128 * i.val + (y 0).val < 512) (hl : l₀ + (y 1).val < 1024) :
    shapeCast S128x512 (KernelIdealRun.piece m ρ c ![0, 128 * i.val, l₀] h) shapeCasts_S1x128x512_S128x512 y
      = x (at3 (c.val / 8) (128 * i.val + (y 0).val) (l₀ + (y 1).val) hc hr hl) := by
  rw [shapeCast_dropUnit_apply]
  unfold KernelIdealRun.piece
  rw [xstg_eq, hx]
  refine congrArg x (eq_at3 hc hr hl _ ?_ ?_ ?_)
  · show Layout.meshLin [2, 2, 4] c.val [0] * 1 + (0 + 1 * 0) = c.val / 8
    rw [first_coord]; omega
  · show 0 * 512 + (128 * i.val + 1 * (y 0).val) = _
    omega
  · show 0 * 1024 + (l₀ + 1 * (y 1).val) = _
    omega

include hx in
/-- Chunk `i` of a device's result: its own slice and the other, on those rows and the device's columns. -/
theorem outVal_apply (c : Dev nD) (i : Fin 4) (y : S128x512.Idx) (hc : c.val / 8 < 2) (hc' : 1 - c.val / 8 < 2)
    (hr : 128 * i.val + (y 0).val < 512) (hl : 512 * (c.val / 8) + (y 1).val < 1024) :
    (outVal m ρ c i y : EReal) = x (at3 (c.val / 8) (128 * i.val + (y 0).val) (512 * (c.val / 8) + (y 1).val) hc hr hl)
      + x (at3 (1 - c.val / 8) (128 * i.val + (y 0).val) (512 * (c.val / 8) + (y 1).val) hc' hr hl) := by
  have hp := peer_div c
  have hk := piece_apply m ρ x hx c i (512 * (c.val / 8)) (keptOff_inb c i) y hc hr hl
  have hs := piece_apply m ρ x hx (peer c) i (512 - 512 * ((peer c).val / 8)) (sentOff_inb (peer c) i) y (by omega) hr (by omega)
  have he : sentVal m ρ (peer c) i y = _ := (congrFun (shapeCast_self _ _) y).trans hs
  refine (congr (congrArg (· + ·) hk) he).trans (congrArg _ (congrArg x ?_))
  refine (eq_at3 hc' hr hl _ ?_ ?_ ?_)
  · exact hp
  · rfl
  · show 512 - 512 * ((peer c).val / 8) + (y 1).val = _
    rw [hp]; omega

include hx in
/-- A device's result is its block of columns of the reference's result. -/
theorem outAt_eq (c : Dev nD) :
    outAt m ρ c = Layout.blockN ⟨2, ![512, 512]⟩ So (Layout.meshBlock [2, 2, 4] ![[], [0]] c) (total x) := by
  funext y
  have hc : c.val / 8 < 2 := by have : c.val < 16 := c.isLt; omega
  have h0 : (y 0).val < 512 := (y 0).isLt
  have h1 : (y 1).val < 512 := (y 1).isLt
  have hd : 128 * ((y 0).val / 128) + (y 0).val % 128 = (y 0).val := Nat.div_add_mod _ _
  rw [Layout.blockN_apply, total_apply]
  refine (outVal_apply m ρ x hx c (chunkOf y) (within y) hc (by omega) (by show 128 * ((y 0).val / 128) + (y 0).val % 128 < 512; omega)
    (by show 512 * (c.val / 8) + (y 1).val < 1024; omega)).trans ?_
  have hix (k : ℕ) (k' : ℕ) (hk : k < 2) (e : k = k') hr hl hk' hr' hl' :
      at3 k (128 * (chunkOf y).val + (within y 0).val) (512 * (c.val / 8) + (within y 1).val) hk hr hl
        = at3 k' (0 * 512 + (y 0).val) (Layout.meshLin [2, 2, 4] c.val [0] * 512 + (y 1).val) hk' hr' hl' :=
    eq_at3 _ _ _ _ e (by show 128 * ((y 0).val / 128) + (y 0).val % 128 = _; omega)
      (by show 512 * (c.val / 8) + (y 1).val = _; rw [first_coord]; omega)
  rcases (by omega : c.val / 8 = 0 ∨ c.val / 8 = 1) with h | h
  · exact congr (congrArg (· + ·) (congrArg x (hix _ 0 _ h _ _ _ _ _))) (congrArg x (hix _ 1 _ (by omega) _ _ _ _ _))
  · refine (add_comm _ _).trans ?_
    exact congr (congrArg (· + ·) (congrArg x (hix _ 0 _ (by omega) _ _ _ _ _))) (congrArg x (hix _ 1 _ h _ _ _ _ _))

include hx in
/-- The contents of a device's result array after the run. -/
theorem result_eq (c : Dev nD) :
    finalA m ρ c (1 : Fin 2) = Layout.blockN ⟨2, ![512, 512]⟩ So (Layout.meshBlock [2, 2, 4] ![[], [0]] c) (total x) := by
  have hz : (fun a => (win0_1.index (0 : Fin 1)) a * main_v1.ty.shape.size a) = fun _ => 0 :=
    funext fun a => by fin_cases a <;> decide
  have hr := fun f => Memref.read_access_unit_zero (Elt Ideal) main_v1 hz (fun a => by fin_cases a <;> decide) f
  exact ((hr _).symm.trans (finalA_o m ρ c)).trans (outAt_eq m ρ x hx c)

end Cert.KernelValue

end
-- ==== Proof.lean ====
/-
  The claims. Each program runs from every memory, leaves its argument as it was and every semaphore counter at zero; and over
  exact arithmetic every device's result is its block of columns of the sum of the two slices of `x`, which the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.KernelIdealRun.Run
public import proofs.«01_k».proof.Proof.KernelRun.Run
public import Idealize.ShloMosaic.Adequacy
public import Idealize.ShloMosaic.Init

@[expose] public section

noncomputable section

namespace Cert.Proof

open Idealize.ShloMosaic Idealize.ShloMosaic.TcCoe Idealize.SL.Sem

/-- The kernel runs, leaves its argument and returns every counter to zero. -/
theorem kernel_quiescent : Cert.quiescent_Kernel (hKernel := Cert.Kernel.Gen.facts) := fun m g _ =>
  (θ_run _ _ _).mono (fun _ h => ⟨fun c => (h.1 c (0 : Fin 2)).trans (Cert.KernelRun.finalA_x m g c), h.2⟩) (Cert.KernelRun.run_main (F := Bits) m g)

/-- So does the kernel over exact arithmetic. -/
theorem kernelIdeal_quiescent : Cert.quiescent_KernelIdeal (hKernelIdeal := Cert.KernelIdeal.Gen.facts) := fun m g _ =>
  (θ_run _ _ _).mono (fun _ h => ⟨fun c => (h.1 c (0 : Fin 2)).trans (Cert.KernelIdealRun.finalA_x m g c), h.2⟩)
    (Cert.KernelIdealRun.run_main (F := Ideal) m g)

/-- So does the reference, which has no semaphore. -/
theorem reference_quiescent : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- The kernel and the reference, over exact arithmetic, end with the same values. -/
theorem same_values : Cert.algebraic_KernelIdeal_ReferenceIdeal (hKernelIdeal := Cert.KernelIdeal.Gen.facts)
    (hReferenceIdeal := Cert.ReferenceIdeal.Gen.facts) := fun m g m' g' _ hx =>
  ⟨_, (θ_run _ _ _).mono (fun _ h c => ⟨(h.1 c (1 : Fin 2)).trans (Cert.KernelValue.result_eq m g _ hx c),
      (h.1 c (0 : Fin 2)).trans (Cert.KernelIdealRun.finalA_x m g c)⟩) (Cert.KernelIdealRun.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  kernel_quiescent, kernelIdeal_quiescent, reference_quiescent, trivial, same_values⟩

end Cert.Proof

end
